-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked_and_clear [hPre_finite_unmasked_and_clear : Cert.Pre_finite_unmasked_and_clear.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked_and_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_unmasked_and_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_finite_unmasked_and_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked_and_clear [hPre_finite_unmasked_and_clear : Cert.Pre_finite_unmasked_and_clear.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked_and_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_unmasked_and_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_finite_unmasked_and_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_unmasked_and_clear [hKernelIdeal : Cert.KernelIdeal.Facts] [hPre_finite_unmasked_and_clear : Cert.Pre_finite_unmasked_and_clear.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked_and_clear m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_unmasked_and_clear [hReferenceIdeal : Cert.ReferenceIdeal.Facts] [hPre_finite_unmasked_and_clear : Cert.Pre_finite_unmasked_and_clear.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked_and_clear m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_unmasked_and_clear [hKernelIdeal : Cert.KernelIdeal.Facts] [hReferenceIdeal : Cert.ReferenceIdeal.Facts] [hPre_finite_unmasked_and_clear : Cert.Pre_finite_unmasked_and_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked_and_clear m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_unmasked_and_clear : Cert.Pre_finite_unmasked_and_clear.Facts),
    quiescent_Kernel (hKernel := hKernel)
    ∧ quiescent_KernelIdeal (hKernelIdeal := hKernelIdeal)
    ∧ quiescent_KernelIdeal_pre_finite_unmasked_and_clear (hKernelIdeal := hKernelIdeal) (hPre_finite_unmasked_and_clear := hPre_finite_unmasked_and_clear)
    ∧ quiescent_ReferenceIdeal (hReferenceIdeal := hReferenceIdeal)
    ∧ quiescent_ReferenceIdeal_pre_finite_unmasked_and_clear (hReferenceIdeal := hReferenceIdeal) (hPre_finite_unmasked_and_clear := hPre_finite_unmasked_and_clear)
    ∧ preserves_Kernel_KernelIdeal
    ∧ algebraic_KernelIdeal_ReferenceIdeal_pre_finite_unmasked_and_clear (hKernelIdeal := hKernelIdeal) (hReferenceIdeal := hReferenceIdeal) (hPre_finite_unmasked_and_clear := hPre_finite_unmasked_and_clear)
-- ==== Pre_finite_unmasked_and_clear.lean ====
abbrev S2x1024x3 : Shape := ⟨3, ![2, 1024, 3]⟩
abbrev S2x1024x1024 : Shape := ⟨3, ![2, 1024, 1024]⟩
abbrev S21 : Shape := ⟨1, ![21]⟩
abbrev S2x1024x1x3 : Shape := ⟨4, ![2, 1024, 1, 3]⟩
abbrev S2x1x1024x3 : Shape := ⟨4, ![2, 1, 1024, 3]⟩
abbrev S2x1024x1024x3 : Shape := ⟨4, ![2, 1024, 1024, 3]⟩
abbrev S_ : Shape := ⟨0, ![]⟩
abbrev S2x1024x1024x1 : Shape := ⟨4, ![2, 1024, 1024, 1]⟩
abbrev S20 : Shape := ⟨1, ![20]⟩
abbrev S1 : Shape := ⟨1, ![1]⟩
abbrev S1x1x1x21 : Shape := ⟨4, ![1, 1, 1, 21]⟩
abbrev S2x1024x1024x21 : Shape := ⟨4, ![2, 1024, 1024, 21]⟩

class Facts : Prop where
  bcast_S2x1024x3_S2x1024x1x3_0_1_3 : S2x1024x3.BroadcastsInDim S2x1024x1x3 (![0, 1, 3] : Fin 3 → Fin S2x1024x1x3.rank)
  bcast_S2x1024x3_S2x1x1024x3_0_2_3 : S2x1024x3.BroadcastsInDim S2x1x1024x3 (![0, 2, 3] : Fin 3 → Fin S2x1x1024x3.rank)
  bcast_S2x1024x1x3_S2x1024x1024x3_0_1_2_3 : S2x1024x1x3.BroadcastsInDim S2x1024x1024x3 (![0, 1, 2, 3] : Fin 4 → Fin S2x1024x1024x3.rank)
  bcast_S2x1x1024x3_S2x1024x1024x3_0_1_2_3 : S2x1x1024x3.BroadcastsInDim S2x1024x1024x3 (![0, 1, 2, 3] : Fin 4 → Fin S2x1024x1024x3.rank)
  reducesTo_S2x1024x1024x3_S2x1024x1024_d3 : S2x1024x1024x3.ReducesTo [3] S2x1024x1024
  h_S_ : 0 < S_.numel
  bcast_S2x1024x1024_S2x1024x1024x1_0_1_2 : S2x1024x1024.BroadcastsInDim S2x1024x1024x1 (![0, 1, 2] : Fin 3 → Fin S2x1024x1024x1.rank)
  bcast_S_S20 : S_.BroadcastsInDim S20 (![] : Fin 0 → Fin S20.rank)
  shapeCasts_S_S1 : S_.ShapeCasts S1
  bcast_S1_S20_0 : S1.BroadcastsInDim S20 (![0] : Fin 1 → Fin S20.rank)
  bcast_S_S1 : S_.BroadcastsInDim S1 (![] : Fin 0 → Fin S1.rank)
  concatenates_S20_S1_S21_d0 : Shape.Concatenates [S20, S1] S21 0
  bcast_S_S2x1024x3 : S_.BroadcastsInDim S2x1024x3 (![] : Fin 0 → Fin S2x1024x3.rank)
  bcast_S_S2x1024x1024 : S_.BroadcastsInDim S2x1024x1024 (![] : Fin 0 → Fin S2x1024x1024.rank)
  bcast_S21_S1x1x1x21_3 : S21.BroadcastsInDim S1x1x1x21 (![3] : Fin 1 → Fin S1x1x1x21.rank)
  bcast_S1x1x1x21_S2x1024x1024x21_0_1_2_3 : S1x1x1x21.BroadcastsInDim S2x1024x1024x21 (![0, 1, 2, 3] : Fin 4 → Fin S2x1024x1024x21.rank)
  bcast_S2x1024x1024x1_S2x1024x1024x21_0_1_2_3 : S2x1024x1024x1.BroadcastsInDim S2x1024x1024x21 (![0, 1, 2, 3] : Fin 4 → Fin S2x1024x1024x21.rank)

variable [Facts]

noncomputable abbrev lit0 : Fin 21 → BitVec 32 := fun
  | 0 => 0x00000000#32 | 1 => 0x3C23D70B#32 | 2 => 0x3D23D70B#32 | 3 => 0x3DB851EC#32 | 4 => 0x3E23D70B#32 | 5 => 0x3E800000#32 | 6 => 0x3EB851EC#32 | 7 => 0x3EFAE147#32
  | 8 => 0x3F23D70B#32 | 9 => 0x3F4F5C28#32 | 10 => 0x3F800000#32 | 11 => 0x3F9AE148#32 | 12 => 0x3FB851EC#32 | 13 => 0x3FD851EA#32 | 14 => 0x3FFAE147#32 | 15 => 0x40100000#32
  | 16 => 0x4023D70B#32 | 17 => 0x4038F5C3#32 | 18 => 0x404F5C28#32 | 19 => 0x40670A3D#32 | 20 => 0x40800000#32
  | _ => 0#32

def fn_linspace {F : FTy → Type} [FloatOps F] (arg0 : FVec F S_ .f32) (arg1 : FVec F S_ .f32) : FVec F S21 .f32 :=
  let v0 : FVec F S_ .f32 := id arg0
  let v1 : FVec F S_ .f32 := id arg1
  let v2 : FVec F S_ .f32 := subf v1 v0
  let cst : FVec F S_ .f32 := constant S_ .f32 0x41A00000#32
  let v3 : FVec F S_ .f32 := Host.divf v2 cst
  let v4 : FVec F S20 .f32 := sitofp .f32 (iotaInDim S20 32 0)
  let cst_0 : FVec F S_ .f32 := constant S_ .f32 0x41A00000#32
  let v5 : FVec F S20 .f32 := broadcastInDim S20 ![] bcast_S_S20 cst_0
  let v6 : FVec F S20 .f32 := Host.divf v4 v5
  let v7 : FVec F S1 .f32 := shapeCast S1 v0 shapeCasts_S_S1
  let cst_1 : FVec F S_ .f32 := constant S_ .f32 0x3F800000#32
  let v8 : FVec F S20 .f32 := broadcastInDim S20 ![] bcast_S_S20 cst_1
  let v9 : FVec F S20 .f32 := subf v8 v6
  let v10 : FVec F S20 .f32 := broadcastInDim S20 ![0] bcast_S1_S20_0 v7
  let v11 : FVec F S20 .f32 := mulf v10 v9
  let v12 : FVec F S1 .f32 := shapeCast S1 v1 shapeCasts_S_S1
  let v13 : FVec F S20 .f32 := broadcastInDim S20 ![0] bcast_S1_S20_0 v12
  let v14 : FVec F S20 .f32 := mulf v13 v6
  let v15 : FVec F S20 .f32 := addf v11 v14
  let v16 : FVec F S1 .f32 := broadcastInDim S1 ![] bcast_S_S1 v1
  let v17 : FVec F S21 .f32 := (fun a b => concatenate S21 0 [⟨S20, a⟩, ⟨S1, b⟩] concatenates_S20_S1_S21_d0) v15 v16
  v17

def fn_part1 {F : FTy → Type} [FloatOps F] (main_cst : FVec F S21 .f32) (main_v7 : FVec F S2x1024x1024x1 .f32) (main_v11 : IVec S2x1024x3 1) (main_v13 : IVec S2x1024x1024 1) (main_v16 : FVec F S2x1024x1024x21 .f32) (main_v17 : FVec F S2x1024x1024x21 .f32) : IVec S2x1024x3 1 × IVec S2x1024x1024 1 × IVec S2x1024x1024x21 1 :=
  let main_v18 : IVec S2x1024x1024x21 1 := cmpf .olt main_v16 main_v17
  let main_v19 : FVec F S1x1x1x21 .f32 := broadcastInDim S1x1x1x21 ![3] bcast_S21_S1x1x1x21_3 main_cst
  let main_v20 : FVec F S2x1024x1024x21 .f32 := broadcastInDim S2x1024x1024x21 ![0, 1, 2, 3] bcast_S2x1024x1024x1_S2x1024x1024x21_0_1_2_3 main_v7
  let main_v21 : FVec F S2x1024x1024x21 .f32 := broadcastInDim S2x1024x1024x21 ![0, 1, 2, 3] bcast_S1x1x1x21_S2x1024x1024x21_0_1_2_3 main_v19
  let main_v22 : IVec S2x1024x1024x21 1 := cmpf .ogt main_v20 main_v21
  let main_v23 : IVec S2x1024x1024x21 1 := cmpi .eq main_v18 main_v22
  (main_v11, main_v13, main_v23)

def fn {F : FTy → Type} [FloatOps F] (main_arg0 : FVec F S2x1024x3 .f32) (main_arg1 : FVec F S2x1024x1024 .f32) : IVec S2x1024x3 1 × IVec S2x1024x1024 1 × IVec S2x1024x1024x21 1 :=
  let main_cst : FVec F S21 .f32 := fun i => FloatOps.ofBits .f32 (lit0 (S21.rowMajor i))
  let main_v0 : FVec F S2x1024x1x3 .f32 := broadcastInDim S2x1024x1x3 ![0, 1, 3] bcast_S2x1024x3_S2x1024x1x3_0_1_3 main_arg0
  let main_v1 : FVec F S2x1x1024x3 .f32 := broadcastInDim S2x1x1024x3 ![0, 2, 3] bcast_S2x1024x3_S2x1x1024x3_0_2_3 main_arg0
  let main_v2 : FVec F S2x1024x1024x3 .f32 := broadcastInDim S2x1024x1024x3 ![0, 1, 2, 3] bcast_S2x1024x1x3_S2x1024x1024x3_0_1_2_3 main_v0
  let main_v3 : FVec F S2x1024x1024x3 .f32 := broadcastInDim S2x1024x1024x3 ![0, 1, 2, 3] bcast_S2x1x1024x3_S2x1024x1024x3_0_1_2_3 main_v1
  let main_v4 : FVec F S2x1024x1024x3 .f32 := subf main_v2 main_v3
  let main_v5 : FVec F S2x1024x1024x3 .f32 := mulf main_v4 main_v4
  let main_cst_0 : FVec F S_ .f32 := constant S_ .f32 0x00000000#32
  let main_v6 : FVec F S2x1024x1024 .f32 := (fun x v => Host.reduceAdd x v reducesTo_S2x1024x1024x3_S2x1024x1024_d3 h_S_) main_v5 main_cst_0
  let main_v7 : FVec F S2x1024x1024x1 .f32 := broadcastInDim S2x1024x1024x1 ![0, 1, 2] bcast_S2x1024x1024_S2x1024x1024x1_0_1_2 main_v6
  let main_cst_1 : FVec F S_ .f32 := constant S_ .f32 0x00000000#32
  let main_cst_2 : FVec F S_ .f32 := constant S_ .f32 0x40000000#32
  let main_v8 : FVec F S21 .f32 := fn_linspace (F := F) main_cst_1 main_cst_2
  let main_v9 : FVec F S2x1024x3 .f32 := Host.absf main_arg0
  let main_cst_3 : FVec F S_ .f32 := constant S_ .f32 0x7F800000#32
  let main_v10 : FVec F S2x1024x3 .f32 := broadcastInDim S2x1024x3 ![] bcast_S_S2x1024x3 main_cst_3
  let main_v11 : IVec S2x1024x3 1 := cmpf .olt main_v9 main_v10
  let main_cst_4 : FVec F S_ .f32 := constant S_ .f32 0x3F800000#32
  let main_v12 : FVec F S2x1024x1024 .f32 := broadcastInDim S2x1024x1024 ![] bcast_S_S2x1024x1024 main_cst_4
  let main_v13 : IVec S2x1024x1024 1 := cmpf .oeq main_arg1 main_v12
  let main_v14 : FVec F S21 .f32 := mulf main_v8 main_v8
  let main_v15 : FVec F S1x1x1x21 .f32 := broadcastInDim S1x1x1x21 ![3] bcast_S21_S1x1x1x21_3 main_v14
  let main_v16 : FVec F S2x1024x1024x21 .f32 := broadcastInDim S2x1024x1024x21 ![0, 1, 2, 3] bcast_S1x1x1x21_S2x1024x1024x21_0_1_2_3 main_v15
  let main_v17 : FVec F S2x1024x1024x21 .f32 := broadcastInDim S2x1024x1024x21 ![0, 1, 2, 3] bcast_S2x1024x1024x1_S2x1024x1024x21_0_1_2_3 main_v7
  fn_part1 (F := F) main_cst main_v7 main_v11 main_v13 main_v16 main_v17
-- ==== Kernel.lean ====
abbrev S2x1024x3 : Shape := ⟨3, ![2, 1024, 3]⟩
abbrev S2x1024x1024 : Shape := ⟨3, ![2, 1024, 1024]⟩
abbrev S22528 : Shape := ⟨1, ![22528]⟩
abbrev S_ : Shape := ⟨0, ![]⟩
abbrev S2x1024 : Shape := ⟨2, ![2, 1024]⟩
abbrev S2x1024x1 : Shape := ⟨3, ![2, 1024, 1]⟩
abbrev S2x1024x5 : Shape := ⟨3, ![2, 1024, 5]⟩
abbrev S2x5x1024 : Shape := ⟨3, ![2, 5, 1024]⟩
abbrev S2x5x1024x22 : Shape := ⟨4, ![2, 5, 1024, 22]⟩
abbrev S2x5x22528 : Shape := ⟨3, ![2, 5, 22528]⟩
abbrev S1x22528 : Shape := ⟨2, ![1, 22528]⟩
abbrev S2x1024x22528 : Shape := ⟨3, ![2, 1024, 22528]⟩
abbrev S1x128x5 : Shape := ⟨3, ![1, 128, 5]⟩
abbrev S1x5x22528 : Shape := ⟨3, ![1, 5, 22528]⟩
abbrev S1x128x22528 : Shape := ⟨3, ![1, 128, 22528]⟩
abbrev S128x5 : Shape := ⟨2, ![128, 5]⟩
abbrev S5x22528 : Shape := ⟨2, ![5, 22528]⟩
abbrev S128x22528 : Shape := ⟨2, ![128, 22528]⟩
abbrev S128x1 : Shape := ⟨2, ![128, 1]⟩

abbrev nBuf : Space → Nat
  | .hbm => 23
  | .vmem => 9
  | .smem => 0
  | _ => 0

abbrev bufTy : (tb : Table) → Fin (tcTables nBuf tb) → BufTy
  | .hbm, ⟨0, _⟩ => ⟨S2x1024x3, .f32⟩
  | .hbm, ⟨1, _⟩ => ⟨S2x1024x1024, .f32⟩
  | .hbm, ⟨2, _⟩ => ⟨S22528, .f32⟩
  | .hbm, ⟨3, _⟩ => ⟨S22528, .f32⟩
  | .hbm, ⟨4, _⟩ => ⟨S22528, .i32⟩
  | .hbm, ⟨5, _⟩ => ⟨S2x1024x3, .f32⟩
  | .hbm, ⟨6, _⟩ => ⟨S_, .f32⟩
  | .hbm, ⟨7, _⟩ => ⟨S2x1024, .f32⟩
  | .hbm, ⟨8, _⟩ => ⟨S2x1024x1, .f32⟩
  | .hbm, ⟨9, _⟩ => ⟨S_, .f32⟩
  | .hbm, ⟨10, _⟩ => ⟨S2x1024x1, .f32⟩
  | .hbm, ⟨11, _⟩ => ⟨S2x1024x5, .f32⟩
  | .hbm, ⟨12, _⟩ => ⟨S_, .f32⟩
  | .hbm, ⟨13, _⟩ => ⟨S2x1024x3, .f32⟩
  | .hbm, ⟨14, _⟩ => ⟨S2x1024x3, .f32⟩
  | .hbm, ⟨15, _⟩ => ⟨S2x1024x5, .f32⟩
  | .hbm, ⟨16, _⟩ => ⟨S2x5x1024, .f32⟩
  | .hbm, ⟨17, _⟩ => ⟨S2x5x1024x22, .f32⟩
  | .hbm, ⟨18, _⟩ => ⟨S2x5x22528, .f32⟩
  | .hbm, ⟨19, _⟩ => ⟨S1x22528, .f32⟩
  | .hbm, ⟨20, _⟩ => ⟨S1x22528, .f32⟩
  | .hbm, ⟨21, _⟩ => ⟨S1x22528, .i32⟩
  | .hbm, ⟨22, _⟩ => ⟨S2x1024x22528, .f32⟩
  | .local _ .vmem, ⟨0, _⟩ => ⟨S1x128x5, .f32⟩
  | .local _ .vmem, ⟨1, _⟩ => ⟨S1x128x5, .f32⟩
  | .local _ .vmem, ⟨2, _⟩ => ⟨S1x5x22528, .f32⟩
  | .local _ .vmem, ⟨3, _⟩ => ⟨S1x5x22528, .f32⟩
  | .local _ .vmem, ⟨4, _⟩ => ⟨S1x22528, .f32⟩
  | .local _ .vmem, ⟨5, _⟩ => ⟨S1x22528, .f32⟩
  | .local _ .vmem, ⟨6, _⟩ => ⟨S1x22528, .i32⟩
  | .local _ .vmem, ⟨7, _⟩ => ⟨S1x128x22528, .f32⟩
  | .local _ .vmem, ⟨8, _⟩ => ⟨S1x128x22528, .f32⟩
  | _, _ => ⟨S2x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_c : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x22528 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x22528 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x22528 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x22528 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x22528 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x1024x3 : Shape := ⟨3, ![2, 1024, 3]⟩
abbrev S2x1024x1024 : Shape := ⟨3, ![2, 1024, 1024]⟩
abbrev S2x1024x1x3 : Shape := ⟨4, ![2, 1024, 1, 3]⟩
abbrev S2x1x1024x3 : Shape := ⟨4, ![2, 1, 1024, 3]⟩
abbrev S2x1024x1024x3 : Shape := ⟨4, ![2, 1024, 1024, 3]⟩
abbrev S_ : Shape := ⟨0, ![]⟩
abbrev S20 : Shape := ⟨1, ![20]⟩
abbrev S1 : Shape := ⟨1, ![1]⟩
abbrev S21 : Shape := ⟨1, ![21]⟩
abbrev S2x1024x1024x1 : Shape := ⟨4, ![2, 1024, 1024, 1]⟩
abbrev S1x1x1x21 : Shape := ⟨4, ![1, 1, 1, 21]⟩
abbrev S2x1024x1024x21 : Shape := ⟨4, ![2, 1024, 1024, 21]⟩
abbrev S1x1x1x22 : Shape := ⟨4, ![1, 1, 1, 22]⟩
abbrev S2x1024x1024x22 : Shape := ⟨4, ![2, 1024, 1024, 22]⟩
abbrev S2x1024x22528 : Shape := ⟨3, ![2, 1024, 22528]⟩

abbrev nBuf : Space → Nat
  | .hbm => 52
  | .vmem => 0
  | .smem => 0
  | _ => 0

abbrev bufTy : (tb : Table) → Fin (tcTables nBuf tb) → BufTy
  | .hbm, ⟨0, _⟩ => ⟨S2x1024x3, .f32⟩
  | .hbm, ⟨1, _⟩ => ⟨S2x1024x1024, .f32⟩
  | .hbm, ⟨2, _⟩ => ⟨S2x1024x1x3, .f32⟩
  | .hbm, ⟨3, _⟩ => ⟨S2x1x1024x3, .f32⟩
  | .hbm, ⟨4, _⟩ => ⟨S2x1024x1024x3, .f32⟩
  | .hbm, ⟨5, _⟩ => ⟨S2x1024x1024x3, .f32⟩
  | .hbm, ⟨6, _⟩ => ⟨S2x1024x1024x3, .f32⟩
  | .hbm, ⟨7, _⟩ => ⟨S2x1024x1024x3, .f32⟩
  | .hbm, ⟨8, _⟩ => ⟨S_, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S20, .f32⟩
  | .hbm, ⟨19, _⟩ => ⟨S_, .f32⟩
  | .hbm, ⟨20, _⟩ => ⟨S20, .f32⟩
  | .hbm, ⟨21, _⟩ => ⟨S20, .f32⟩
  | .hbm, ⟨22, _⟩ => ⟨S1, .f32⟩
  | .hbm, ⟨23, _⟩ => ⟨S_, .f32⟩
  | .hbm, ⟨24, _⟩ => ⟨S20, .f32⟩
  | .hbm, ⟨25, _⟩ => ⟨S20, .f32⟩
  | .hbm, ⟨26, _⟩ => ⟨S20, .f32⟩
  | .hbm, ⟨27, _⟩ => ⟨S20, .f32⟩
  | .hbm, ⟨28, _⟩ => ⟨S1, .f32⟩
  | .hbm, ⟨29, _⟩ => ⟨S20, .f32⟩
  | .hbm, ⟨30, _⟩ => ⟨S20, .f32⟩
  | .hbm, ⟨31, _⟩ => ⟨S20, .f32⟩
  | .hbm, ⟨32, _⟩ => ⟨S1, .f32⟩
  | .hbm, ⟨33, _⟩ => ⟨S21, .f32⟩
  | .hbm, ⟨34, _⟩ => ⟨S2x1024x1024x1, .f32⟩
  | .hbm, ⟨35, _⟩ => ⟨S1x1x1x21, .f32⟩
  | .hbm, ⟨36, _⟩ => ⟨S2x1024x1024x21, .f32⟩
  | .hbm, ⟨37, _⟩ => ⟨S2x1024x1024x21, .f32⟩
  | .hbm, ⟨38, _⟩ => ⟨S2x1024x1024x21, .i1⟩
  | .hbm, ⟨39, _⟩ => ⟨S2x1024x1024x21, .i32⟩
  | .hbm, ⟨40, _⟩ => ⟨S_, .i32⟩
  | .hbm, ⟨41, _⟩ => ⟨S2x1024x1024, .i32⟩
  | .hbm, ⟨42, _⟩ => ⟨S2x1024x1024x1, .i32⟩
  | .hbm, ⟨43, _⟩ => ⟨S1x1x1x22, .i32⟩
  | .hbm, ⟨44, _⟩ => ⟨S2x1024x1024x22, .i32⟩
  | .hbm, ⟨45, _⟩ => ⟨S2x1024x1024x22, .i32⟩
  | .hbm, ⟨46, _⟩ => ⟨S2x1024x1024x22, .i1⟩
  | .hbm, ⟨47, _⟩ => ⟨S2x1024x1024x22, .f32⟩
  | .hbm, ⟨48, _⟩ => ⟨S2x1024x1024x1, .f32⟩
  | .hbm, ⟨49, _⟩ => ⟨S2x1024x1024x22, .f32⟩
  | .hbm, ⟨50, _⟩ => ⟨S2x1024x1024x22, .f32⟩
  | .hbm, ⟨51, _⟩ => ⟨S2x1024x22528, .f32⟩
  | _, _ => ⟨S2x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v5 : Ref sig .tc := ⟨.hbm, 10, rfl⟩
abbrev main_cst : Ref sig .tc := ⟨.hbm, 11, rfl⟩
abbrev main_cst_0 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_cst : Ref sig .tc := ⟨.hbm, 16, rfl⟩
abbrev main_call1_v3 : Ref sig .tc := ⟨.hbm, 17, rfl⟩
abbrev main_call1_v4 : Ref sig .tc := ⟨.hbm, 18, rfl⟩
abbrev main_call1_cst_0 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_cst_1 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_v12 : Ref sig .tc := ⟨.hbm, 28, rfl⟩
abbrev main_call1_v13 : Ref sig .tc := ⟨.hbm, 29, rfl⟩
abbrev main_call1_v14 : Ref sig .tc := ⟨.hbm, 30, rfl⟩
abbrev main_call1_v15 : Ref sig .tc := ⟨.hbm, 31, rfl⟩
abbrev main_call1_v16 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c : Ref sig .tc := ⟨.hbm, 40, rfl⟩
abbrev main_v13 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩

abbrev nD : Nat := 1
abbrev τ : Topo := Topo.v7x

variable {F : FTy → Type} [FloatOps F]
-- ==== Proof.Edges.lean ====
/- THE WORDS OF THE EDGES: for each of the 22 bins the float32 words that the kernel keeps for the squares of its two edges.
   The words of the 21 limits' squares are those that the precondition names. -/
module

public import proofs.«01_k».proof.Pre_finite_unmasked_and_clear

@[expose] public section

namespace Cert.Bins

/-- The word kept for the square of limit `k`. -/
noncomputable def word (k : Fin 21) : BitVec 32 := Cert.Pre_finite_unmasked_and_clear.lit0 k

/-- The word of the lower edge of bin `k`: minus infinity's for the first bin, else that of limit `k - 1`. -/
noncomputable def lowWord (k : ℕ) : BitVec 32 := if h : 0 < k ∧ k < 22 then word ⟨k - 1, by omega⟩ else 0xFF800000#32

/-- The word of the upper edge of bin `k`: plus infinity's for the last bin, else that of limit `k`. -/
noncomputable def highWord (k : ℕ) : BitVec 32 := if h : k < 21 then word ⟨k, h⟩ else 0x7F800000#32

end Cert.Bins
-- ==== Proof.Bins.lean ====
/- THE MATHEMATICS of the certificate, over the real numbers: the bin of a distance is the number of limits below it, and
   the distance falls in bin `k` exactly when its square lies between the squares of limits `k - 1` and `k`; and, where no
   squared distance lies between a limit's square and the word kept for it, between the words. -/
module

public import proofs.«01_k».proof.Proof.Edges
public import Idealize.ShloMosaic.Lib.Pointwise

@[expose] public section

noncomputable section

namespace Cert.Bins

open Idealize.ShloMosaic

/-- The limit of number `k`: 21 of them, from 0 to 2 in steps of a tenth. -/
def limit (k : ℕ) : ℝ := (k : ℝ) / 10

/-- The bin of the distance `s`: how many of the 21 limits lie strictly below it. -/
def bin (s : ℝ) : ℕ := ((Finset.univ : Finset (Fin 21)).filter fun k => limit k.val < s).card

/-- The squared distance of two points of space. -/
def sqDist (p q : Fin 3 → ℝ) : ℝ := ∑ c, (p c - q c) * (p c - q c)

/-- What both programs hold for a pair of points and a bin: 1 in the bin of their distance, 0 elsewhere. -/
def oneHot (p q : Fin 3 → ℝ) (k : ℕ) : EReal := if bin (Real.sqrt (sqDist p q)) = k then 1 else 0

/-- A squared distance is not negative. -/
theorem sqDist_nonneg (p q : Fin 3 → ℝ) : 0 ≤ sqDist p q :=
  Finset.sum_nonneg fun _ _ => mul_self_nonneg _

/-- A point is at distance zero from itself. -/
theorem sqDist_self (p : Fin 3 → ℝ) : sqDist p p = 0 := by
  simp [sqDist]

/-- The expansion of the square, as the products of two rows of five: coordinates, squared length and one on the left;
    coordinates times minus two, one and squared length on the right. -/
theorem sqDist_expand (p q : Fin 3 → ℝ) :
    p 0 * (-2 * q 0) + p 1 * (-2 * q 1) + p 2 * (-2 * q 2) + (∑ c, p c * p c) * 1 + 1 * (∑ c, q c * q c) = sqDist p q := by
  simp only [sqDist, Fin.sum_univ_three]
  ring

/-- If a predicate that holds below whatever it holds at holds below `k` and, unless `k = n`, not at `k`, then it holds
    at `k` of the numbers below `n`. -/
theorem card_of_edge (P : ℕ → Prop) [DecidablePred P] (hP : ∀ i j, i ≤ j → P j → P i) {n k : ℕ} (hk : k ≤ n)
    (hlo : ∀ i < k, P i) (hhi : k = n ∨ ¬ P k) :
    ((Finset.univ : Finset (Fin n)).filter fun i => P i.val).card = k := by
  have e : ((Finset.univ : Finset (Fin n)).filter fun i => P i.val) = Finset.univ.filter fun i : Fin n => i.val < k := by
    refine Finset.filter_congr fun i _ => ⟨fun h => ?_, fun h => hlo _ h⟩
    rcases hhi with rfl | h'
    · exact i.isLt
    · exact not_le.mp fun hc => h' (hP _ _ hc h)
  rw [e, Fin.card_filter_val_lt, min_eq_right hk]

/-- How often such a predicate holds below `n`, told by its values at the edge. -/
theorem card_eq_iff (P : ℕ → Prop) [DecidablePred P] (hP : ∀ i j, i ≤ j → P j → P i) {n k : ℕ} (hk : k ≤ n) :
    ((Finset.univ : Finset (Fin n)).filter fun i => P i.val).card = k ↔ (k = 0 ∨ P (k - 1)) ∧ (k = n ∨ ¬ P k) := by
  constructor
  · intro h
    have hex : ∃ j, j = n ∨ ¬ P j := ⟨n, Or.inl rfl⟩
    have hlo : ∀ i < Nat.find hex, P i := fun i hi => not_not.mp fun hc => Nat.find_min hex hi (Or.inr hc)
    have hkj : Nat.find hex = k :=
      (card_of_edge P hP (Nat.find_min' hex (Or.inl rfl)) hlo (Nat.find_spec hex)).symm.trans h
    refine ⟨?_, hkj ▸ Nat.find_spec hex⟩
    rcases Nat.eq_zero_or_pos k with h0 | h0
    · exact Or.inl h0
    · exact Or.inr (hlo _ (by omega))
  · rintro ⟨h1, h2⟩
    refine card_of_edge P hP hk (fun i hi => ?_) h2
    rcases h1 with rfl | h1
    · exact absurd hi (Nat.not_lt_zero i)
    · exact hP _ _ (by omega) h1

/-- The limits do not decrease. -/
theorem limit_mono {i j : ℕ} (h : i ≤ j) : limit i ≤ limit j := by
  have : (i : ℝ) ≤ j := by exact_mod_cast h
  unfold limit
  linarith

/-- A limit lies below a square root exactly when its square lies below the radicand. -/
theorem limit_lt_sqrt (k : ℕ) (d : ℝ) : limit k < Real.sqrt d ↔ limit k * limit k < d := by
  rw [Real.lt_sqrt (by unfold limit; positivity), sq]

/-- THE BIN BY SQUARES: a distance whose square is `d` falls in bin `k` exactly when `d` lies above the square of limit
    `k - 1`, if there is one, and at or below the square of limit `k`, if there is one. -/
theorem bin_eq_iff (d : ℝ) {k : ℕ} (hk : k < 22) :
    bin (Real.sqrt d) = k ↔ (k = 0 ∨ limit (k - 1) * limit (k - 1) < d) ∧ (k = 21 ∨ d ≤ limit k * limit k) := by
  unfold bin
  rw [card_eq_iff (fun i => limit i < Real.sqrt d) (fun i j h hj => lt_of_le_of_lt (limit_mono h) hj) (by omega : k ≤ 21),
    limit_lt_sqrt, limit_lt_sqrt, not_lt]

/-! ## The constants of the programs, as extended reals -/

/-- The word of 2.0. -/
theorem word_two : Ideal.ofBits .f32 0x40000000#32 = ((2 : ℝ) : EReal) := by
  simp [Ideal.ofBits, Ideal.ieee, -EReal.coe_mul]; norm_num

/-- The word of 20.0. -/
theorem word_twenty : Ideal.ofBits .f32 0x41A00000#32 = ((20 : ℝ) : EReal) := by
  simp [Ideal.ofBits, Ideal.ieee, -EReal.coe_mul]; norm_num

/-- The word of -2.0. -/
theorem word_neg_two : Ideal.ofBits .f32 0xC0000000#32 = ((-2 : ℝ) : EReal) := by
  simp [Ideal.ofBits, Ideal.ieee, -EReal.coe_mul, -EReal.coe_neg]; norm_num

/-- The word of plus infinity. -/
theorem word_top : Ideal.ofBits .f32 0x7F800000#32 = ⊤ := by
  simp [Ideal.ofBits, Ideal.ieee]

/-- The word of minus infinity. -/
theorem word_bot : Ideal.ofBits .f32 0xFF800000#32 = ⊥ := by
  simp [Ideal.ofBits, Ideal.ieee]

/-- A small number's word, read signed, is the number. -/
theorem count_word {k : ℕ} (hk : k < 22) : (FloatOps.sitofp (F := Ideal) .f32 (BitVec.ofNat 32 k)) = ((k : ℝ) : EReal) := by
  show (((BitVec.ofNat 32 k).toInt : ℝ) : EReal) = _
  rw [BitVec.toInt_ofNat', Int.bmod_eq_of_le (by omega) (by omega)]
  simp

/-- A real number divided by twenty. -/
theorem div_twenty (x : ℝ) : Ideal.div (x : EReal) ((20 : ℝ) : EReal) = ((x / 20 : ℝ) : EReal) := by
  rw [Ideal.div_coe (by norm_num), ← EReal.coe_mul]
  congr 1
  ring

/-! ## The edges as the kernel keeps them -/

/-- The lower edge of bin `k` as the kernel keeps it: the number that its word stands for. -/
def low (k : ℕ) : EReal := Ideal.ofBits .f32 (lowWord k)

/-- The upper edge of bin `k` as the kernel keeps it. -/
def high (k : ℕ) : EReal := Ideal.ofBits .f32 (highWord k)

/-- The squared distance `d` does not lie between a limit's square and the number kept for that square. -/
def Clear (d : ℝ) : Prop := ∀ k : Fin 21, limit k.val * limit k.val < d ↔ Ideal.ofBits .f32 (word k) < (d : EReal)

/-- THE EQUATION: one exactly when the squared distance, clear of the rounding, lies between the edges kept for bin `k`. -/
theorem oneHot_eq (p q : Fin 3 → ℝ) (hc : Clear (sqDist p q)) {k : ℕ} (hk : k < 22) :
    oneHot p q k = if low k < (sqDist p q : EReal) ∧ (sqDist p q : EReal) ≤ high k then 1 else 0 := by
  unfold oneHot
  refine if_congr ((bin_eq_iff _ hk).trans (and_congr ?_ ?_)) rfl rfl
  · unfold low lowWord
    split
    · next h => rw [or_iff_right (by omega), hc ⟨k - 1, by omega⟩]
    · next h => simp [(by omega : k = 0), word_bot, EReal.bot_lt_coe]
  · unfold high highWord
    split
    · next h => rw [or_iff_right (by omega), ← not_lt, hc ⟨k, h⟩, not_lt]
    · next h => simp [(by omega : k = 21), word_top]

end Cert.Bins
-- ==== Proof.Columns.lean ====
/- THE TABLE OF THE COLUMNS that the kernel is launched on, entry by entry. -/
module

public import proofs.«01_k».proof.KernelIdeal

@[expose] public section

set_option maxRecDepth 16384

noncomputable section

namespace Cert.KernelIdeal

open Cert.KernelIdeal Idealize.ShloMosaic

set_option maxHeartbeats 4000000 in
/-- The table of columns, block of 128 by block of 128: entry `128 * a + b` is that number divided by 22. -/
theorem columns_blocks : ∀ a : Fin 176, ∀ b : Fin 128,
    lit2t (128 * a.val + b.val) = BitVec.ofNat 32 ((128 * a.val + b.val) / 22) := by
  decide +kernel

/-- Entry `i` of the table of columns is `i / 22`. -/
theorem columns_apply (i : Fin 22528) : lit2 i = BitVec.ofNat 32 (i.val / 22) := by
  have h := columns_blocks ⟨i.val / 128, by omega⟩ ⟨i.val % 128, by omega⟩
  rwa [Nat.div_add_mod] at h

end Cert.KernelIdeal
-- ==== Proof.Lows.lean ====
/- THE TABLE OF THE LOWER EDGES that the kernel is launched on, entry by entry. The tables are checked one after the other,
   so this module imports the one before. -/
module

public import proofs.«01_k».proof.KernelIdeal
public import proofs.«01_k».proof.Proof.Edges
public import proofs.«01_k».proof.Proof.Columns

@[expose] public section

set_option maxRecDepth 16384

noncomputable section

namespace Cert.KernelIdeal

open Cert.KernelIdeal Cert.Bins Idealize.ShloMosaic

set_option maxHeartbeats 4000000 in
/-- The table of lower edges, block of 128 by block of 128: entry `128 * a + b` is the word of bin `(128 * a + b) % 22`. -/
theorem lows_blocks : ∀ a : Fin 176, ∀ b : Fin 128,
    lit0t (128 * a.val + b.val) = lowWord ((128 * a.val + b.val) % 22) := by
  decide +kernel

/-- Entry `i` of the table of lower edges is the word of bin `i % 22`. -/
theorem lows_apply (i : Fin 22528) : lit0 i = lowWord (i.val % 22) := by
  have h := lows_blocks ⟨i.val / 128, by omega⟩ ⟨i.val % 128, by omega⟩
  rwa [Nat.div_add_mod] at h

end Cert.KernelIdeal
-- ==== Proof.Highs.lean ====
/- THE TABLE OF THE UPPER EDGES that the kernel is launched on, entry by entry. The tables are checked one after the other,
   so this module imports the one before. -/
module

public import proofs.«01_k».proof.KernelIdeal
public import proofs.«01_k».proof.Proof.Edges
public import proofs.«01_k».proof.Proof.Lows

@[expose] public section

set_option maxRecDepth 16384

noncomputable section

namespace Cert.KernelIdeal

open Cert.KernelIdeal Cert.Bins Idealize.ShloMosaic

set_option maxHeartbeats 4000000 in
/-- The table of upper edges, block of 128 by block of 128: entry `128 * a + b` is the word of bin `(128 * a + b) % 22`. -/
theorem highs_blocks : ∀ a : Fin 176, ∀ b : Fin 128,
    lit1t (128 * a.val + b.val) = highWord ((128 * a.val + b.val) % 22) := by
  decide +kernel

/-- Entry `i` of the table of upper edges is the word of bin `i % 22`. -/
theorem highs_apply (i : Fin 22528) : lit1 i = highWord (i.val % 22) := by
  have h := highs_blocks ⟨i.val / 128, by omega⟩ ⟨i.val % 128, by omega⟩
  rwa [Nat.div_add_mod] at h

end Cert.KernelIdeal
-- ==== Proof.Operands.lean ====
/- WHAT THE KERNEL IS LAUNCHED ON: the five arrays that the host operations prepare, each at an index, as functions of the
   points' coordinates. -/
module

public import proofs.«01_k».proof.Proof.Gen.KernelIdeal.Value
public import proofs.«01_k».proof.Proof.Bins
public import proofs.«01_k».proof.Proof.Columns
public import proofs.«01_k».proof.Proof.Lows
public import proofs.«01_k».proof.Proof.Highs
public import Idealize.ShloMosaic.Lib.Pipeline.ValueKit

@[expose] public section

set_option maxRecDepth 16384

noncomputable section

namespace Cert.KernelIdeal.Value

open Cert.KernelIdeal Cert.KernelIdeal.Gen Cert.Bins Idealize.ShloMosaic Idealize.ShloMosaic.TcCoe Idealize.SL.Sem
open Idealize.ShloMosaic.Pointwise

variable (m : (ℓ : Loc nD τ sig) → Buf (Elt Ideal) ℓ)

/-- The points' coordinates, as launched. -/
abbrev points (c : Dev nD) : FVec Ideal S2x1024x3 .f32 := m ((c.tc : Thread nD τ).loc main_arg0)
/-- The products' left operand. -/
abbrev leftArr (c : Dev nD) : FVec Ideal S2x1024x5 .f32 := V m c main_v4
/-- The products' right operand. -/
abbrev rightArr (c : Dev nD) : FVec Ideal S2x5x22528 .f32 := V m c main_v10
/-- The lower edges, lane by lane. -/
abbrev lowArr (c : Dev nD) : FVec Ideal S1x22528 .f32 := V m c main_v11
/-- The upper edges, lane by lane. -/
abbrev highArr (c : Dev nD) : FVec Ideal S1x22528 .f32 := V m c main_v12
/-- The columns, lane by lane. -/
abbrev columnArr (c : Dev nD) : IVec S1x22528 32 := V m c main_v13

/-- Three arrays side by side along the last axis. -/
def beside (a : FVec Ideal S2x1024x3 .f32) (b c : FVec Ideal S2x1024x1 .f32) : FVec Ideal S2x1024x5 .f32 :=
  concatenate S2x1024x5 2 [⟨S2x1024x3, a⟩, ⟨S2x1024x1, b⟩, ⟨S2x1024x1, c⟩] concatenates_S2x1024x3_S2x1024x1_S2x1024x1_S2x1024x5_d2

/-- Three arrays side by side, at an index. -/
theorem beside_apply (a : FVec Ideal S2x1024x3 .f32) (b c : FVec Ideal S2x1024x1 .f32) (s : Fin 2) (r : Fin 1024) :
    beside a b c (ix3 s r 0) = a (ix3 s r 0) ∧ beside a b c (ix3 s r 1) = a (ix3 s r 1) ∧ beside a b c (ix3 s r 2) = a (ix3 s r 2)
      ∧ beside a b c (ix3 s r 3) = b (ix3 s r 0) ∧ beside a b c (ix3 s r 4) = c (ix3 s r 0) := by
  refine ⟨?_, ?_, ?_, ?_, ?_⟩ <;> pointwise [beside] <;> rfl

/-- The left operand: coordinates, squared length, one. -/
theorem left_eq (c : Dev nD) : V m c main_v4 = beside (points m c) (V m c main_v2) (V m c main_v3) := by
  simp only [V, hostOps0, StableHlo.after_cons, StableHlo.after_nil]
  after_results_simp
  show beside _ _ _ = beside _ _ _
  refine congr (congr (congrArg beside ?_) ?_) ?_
  all_goals
    dsimp only [Matrix.cons_val_zero, Matrix.cons_val_one, Matrix.cons_val]
    after_results_simp

/-- The right operand before it is turned and repeated: coordinates times minus two, one, squared length. -/
theorem right_eq (c : Dev nD) : V m c main_v7 = beside (V m c main_v6) (V m c main_v3) (V m c main_v2) := by
  simp only [V, hostOps0, StableHlo.after_cons, StableHlo.after_nil]
  after_results_simp
  show beside _ _ _ = beside _ _ _
  refine congr (congr (congrArg beside ?_) ?_) ?_
  all_goals
    dsimp only [Matrix.cons_val_zero, Matrix.cons_val_one, Matrix.cons_val]
    after_results_simp

/-- The right operand, turned and each of its columns repeated 22 times. -/
theorem repeated_eq (c : Dev nD) : V m c main_v10
    = shapeCast S2x5x22528 (broadcastInDim S2x5x1024x22 ![0, 1, 2] bcast_S2x5x1024_S2x5x1024x22_0_1_2
        (transpose S2x5x1024 [0, 2, 1] (V m c main_v7) transposes_S2x1024x5_S2x5x1024_0_2_1)) shapeCasts_S2x5x1024x22_S2x5x22528 := by
  simp only [V, hostOps0, StableHlo.after_cons, StableHlo.after_nil]
  after_results_simp
  rfl

/-- Lane `l` of the repeated right operand is column `l / 22` of the one before it. -/
theorem repeated_apply (c : Dev nD) (b : Fin 2) (k : Fin 5) (l : Fin 22528) :
    V m c main_v10 (ix3 b k l) = V m c main_v7 (ix3 b ⟨l.val / 22, by omega⟩ k) := by
  rw [repeated_eq]
  generalize V m c main_v7 = v
  pointwise

section Finite

variable (c : Dev nD) (p : Fin 2 → Fin 1024 → Fin 3 → ℝ)
  (hx : ∀ b i k, points m c (ix3 b i k) = (p b i k : EReal))
include hx

/-- The squared lengths. -/
theorem lengths_apply (b : Fin 2) (i : Fin 1024) : (V m c main_v2 : FVec Ideal S2x1024x1 .f32) (ix3 b i 0) = ((∑ k, p b i k * p b i k : ℝ) : EReal) := by
  have h : (V m c main_v2 : FVec Ideal S2x1024x1 .f32) (ix3 b i 0)
      = ∑ k, points m c (ix3 b i k) * points m c (ix3 b i k) := by
    entry_read
    pointwise
  rw [h]
  simp only [hx, Fin.sum_univ_three, EReal.coe_add, EReal.coe_mul]

omit hx in
/-- The ones. -/
theorem ones_apply (b : Fin 2) (i : Fin 1024) : V m c main_v3 (ix3 b i 0) = (1 : EReal) := by
  entry_read
  pointwise

/-- The coordinates times minus two. -/
theorem doubled_apply (b : Fin 2) (i : Fin 1024) (k : Fin 3) : V m c main_v6 (ix3 b i k) = ((-2 * p b i k : ℝ) : EReal) := by
  have h : V m c main_v6 (ix3 b i k)
      = Ideal.ofBits .f32 0xC0000000#32 * points m c (ix3 b i k) := by
    entry_read
    pointwise
  rw [h, hx, word_neg_two, EReal.coe_mul]

/-- THE PRODUCT of row `i` of the left operand and lane `l` of the right one: the squared distance of points `i` and `l / 22`. -/
theorem product_eq (b : Fin 2) (i : Fin 1024) (l : Fin 22528) :
    ∑ k : Fin 5, leftArr m c (ix3 b i k) * rightArr m c (ix3 b k l)
      = (sqDist (p b i) (p b ⟨l.val / 22, by omega⟩) : EReal) := by
  obtain ⟨l0, l1, l2, l3, l4⟩ := beside_apply (points m c) (V m c main_v2) (V m c main_v3) b i
  obtain ⟨r0, r1, r2, r3, r4⟩ := beside_apply (V m c main_v6) (V m c main_v3) (V m c main_v2) b ⟨l.val / 22, by omega⟩
  have hl : leftArr m c = beside (points m c) (V m c main_v2) (V m c main_v3) := left_eq m c
  have hr : ∀ k, rightArr m c (ix3 b k l) = beside (V m c main_v6) (V m c main_v3) (V m c main_v2) (ix3 b ⟨l.val / 22, by omega⟩ k) :=
    fun k => (repeated_apply m c b k l).trans (congrFun (right_eq m c) _)
  rw [Fin.sum_univ_five, hr, hr, hr, hr, hr, hl, l0, l1, l2, l3, l4, r0, r1, r2, r3, r4]
  rw [lengths_apply m c p hx, lengths_apply m c p hx, ones_apply, ones_apply, doubled_apply m c p hx, doubled_apply m c p hx,
    doubled_apply m c p hx, hx, hx, hx]
  rw [← sqDist_expand, ← EReal.coe_one]
  simp only [EReal.coe_add, EReal.coe_mul]

end Finite

/-- The lower edges, repeated for every column. -/
theorem low_apply (c : Dev nD) (l : Fin 22528) : lowArr m c (ix2 0 l) = low (l.val % 22) := by
  have h : lowArr m c (ix2 0 l) = Ideal.ofBits .f32 (lit0 (S22528.rowMajor (ix1 l))) := by
    unfold lowArr
    entry_read
    pointwise
  refine h.trans (congrArg (Ideal.ofBits .f32) ((lows_apply (S22528.rowMajor (ix1 l))).trans ?_))
  rw [Shape.rowMajor_val_one]
  rfl

/-- The upper edges, repeated for every column. -/
theorem high_apply (c : Dev nD) (l : Fin 22528) : highArr m c (ix2 0 l) = high (l.val % 22) := by
  have h : highArr m c (ix2 0 l) = Ideal.ofBits .f32 (lit1 (S22528.rowMajor (ix1 l))) := by
    unfold highArr
    entry_read
    pointwise
  refine h.trans (congrArg (Ideal.ofBits .f32) ((highs_apply (S22528.rowMajor (ix1 l))).trans ?_))
  rw [Shape.rowMajor_val_one]
  rfl

/-- The column of each lane. -/
theorem column_apply (c : Dev nD) (l : Fin 22528) : columnArr m c (ix2 0 l) = BitVec.ofNat 32 (l.val / 22) := by
  have h : columnArr m c (ix2 0 l) = lit2 (S22528.rowMajor (ix1 l)) := by
    unfold columnArr
    entry_read
    pointwise
  rw [h]
  refine (columns_apply (S22528.rowMajor (ix1 l))).trans ?_
  rw [Shape.rowMajor_val_one]
  rfl

end Cert.KernelIdeal.Value
-- ==== Proof.Block.lean ====
/- WHAT ONE BLOCK COMPUTES, and from the blocks the array that the kernel leaves, at an index. -/
module

public import proofs.«01_k».proof.Proof.Operands

@[expose] public section

set_option maxRecDepth 16384

noncomputable section

namespace Cert.KernelIdeal.Value

open Cert.KernelIdeal Cert.KernelIdeal.Gen Cert.Bins Idealize.ShloMosaic Idealize.ShloMosaic.TcCoe Idealize.SL.Sem
open Idealize.ShloMosaic.Pointwise

variable (m : (ℓ : Loc nD τ sig) → Buf (Elt Ideal) ℓ)

/-- The remainder of a row's number by 128, as the kernel spells it with its correction for signs, is the number. -/
theorem row_rest (p : Fin 128) :
    Scalar.select
      (IntOp.andi
        (IntOp.xori (IntOp.cmpi .slt (IntOp.remsi .vector (BitVec.ofNat 32 p.val) (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi .vector (BitVec.ofNat 32 p.val) (Scalar.select (Scalar.cmpi .eq 128#32 0#32) 1#32 128#32)) 0#32))
      (IntOp.addi (IntOp.remsi .vector (BitVec.ofNat 32 p.val) (Scalar.select (Scalar.cmpi .eq 128#32 0#32) 1#32 128#32))
        (Scalar.select (Scalar.cmpi .eq 128#32 0#32) 1#32 128#32))
      (IntOp.remsi .vector (BitVec.ofNat 32 p.val) (Scalar.select (Scalar.cmpi .eq 128#32 0#32) 1#32 128#32))
      = BitVec.ofNat 32 p.val := by
  revert p
  decide +kernel

/-- The first row of a block. -/
theorem base_apply (i : grid0.Coords) (p : Fin 128) : k0_pay3 i (ix2 p 0) = BitVec.ofNat 32 ((i 1).val * 128) := by
  have h : k0_pay3 i (ix2 p 0) = IntOp.addi (0#32) (Scalar.muli (BitVec.ofNat 32 (i 1).val) 128#32) := by
    pointwise [k0_pay3]
  rw [h]
  simp [IntOp.addi, Scalar.muli, IntOp.muli, BitVec.ofNat_mul]

/-- The block's products. -/
theorem product_apply (g : Vec Ideal S1x128x5 .f32) (h : Vec Ideal S1x5x22528 .f32) (p : Fin 128) (l : Fin 22528) :
    k0_pay2 g h (ix2 p l) = ∑ k : Fin 5, g (ix3 0 p k) * h (ix3 0 k l) := by
  pointwise [k0_pay2]

/-- THE BLOCK: an element is 1 when the product, put to zero where the column is the row, lies between the two edges. -/
theorem store_apply (d : FVec Ideal S128x22528 .f32) (base : IVec S128x1 32) (col : Vec Ideal S1x22528 .i32)
    (lo hi : Vec Ideal S1x22528 .f32) (p : Fin 128) (l : Fin 22528) (e : EReal)
    (he : (if col (ix2 0 l) = base (ix2 p 0) + BitVec.ofNat 32 p.val then 0 else d (ix2 p l)) = e) :
    k0_pay1 d (iota .tc S128x1 32 [0] iota_S128x1_d0_w32) base 128#32 0#32 col lo hi (ix3 0 p l)
      = if (lo (ix2 0 l) : EReal) < e ∧ e ≤ hi (ix2 0 l) then (1 : EReal) else 0 := by
  pointwise [k0_pay1]
  rw [row_rest]
  have hs : Scalar.select (IntOp.cmpi .eq (col (ix2 0 l)) (IntOp.addi (base (ix2 p 0)) (BitVec.ofNat 32 p.val))) 0 (d (ix2 p l)) = e := by
    rw [← he]
    by_cases h : col (ix2 0 l) = base (ix2 p 0) + BitVec.ofNat 32 p.val
    · simp [Scalar.select, IntOp.cmpi, IntOp.addi, h]
    · simp [Scalar.select, IntOp.cmpi, IntOp.addi, h, beq_eq_false_iff_ne.mpr h]
  rw [hs]
  by_cases h1 : (lo (ix2 0 l) : EReal) < e <;> by_cases h2 : e ≤ (hi (ix2 0 l) : EReal) <;> simp [Scalar.select, IntOp.andi, h1, h2]

/-- The same, with every read named. -/
theorem store_of (d : FVec Ideal S128x22528 .f32) (base : IVec S128x1 32) (col : Vec Ideal S1x22528 .i32)
    (lo hi : Vec Ideal S1x22528 .f32) (p : Fin 128) (l : Fin 22528) (x a b : EReal) (w z : BitVec 32) (hd : d (ix2 p l) = x)
    (hlo : lo (ix2 0 l) = a) (hhi : hi (ix2 0 l) = b) (hcol : col (ix2 0 l) = w) (hbase : base (ix2 p 0) = z) :
    k0_pay1 d (iota .tc S128x1 32 [0] iota_S128x1_d0_w32) base 128#32 0#32 col lo hi (ix3 0 p l)
      = if a < (if w = z + BitVec.ofNat 32 p.val then 0 else x) ∧ (if w = z + BitVec.ofNat 32 p.val then 0 else x) ≤ b then (1 : EReal)
        else 0 := by
  subst hd hlo hhi hcol hbase
  exact store_apply d base col lo hi p l _ rfl

/-- Where each window's block stands at a point, and the point's coordinates. -/
theorem placed : ∀ t : Fin grid0.N,
    win0_0.index t = ![(grid0.coords t 0).val, (grid0.coords t 1).val, 0] ∧ win0_1.index t = ![(grid0.coords t 0).val, 0, 0]
      ∧ win0_2.index t = ![0, 0] ∧ win0_3.index t = ![0, 0] ∧ win0_4.index t = ![0, 0]
      ∧ win0_5.index t = ![(grid0.coords t 0).val, (grid0.coords t 1).val, 0] := by
  decide +kernel

/-- The array the kernel leaves, as a function of the arrays it is launched on. -/
def left (c : Dev nD) (b : Fin 2) (i : Fin 1024) (l : Fin 22528) : EReal :=
  if columnArr m c (ix2 0 l) = BitVec.ofNat 32 i.val then 0 else ∑ k : Fin 5, leftArr m c (ix3 b i k) * rightArr m c (ix3 b k l)

/-- The same, tested against the edges. -/
def hit (c : Dev nD) (b : Fin 2) (i : Fin 1024) (l : Fin 22528) : EReal :=
  if lowArr m c (ix2 0 l) < left m c b i l ∧ left m c b i l ≤ highArr m c (ix2 0 l) then 1 else 0

/-- A point's block of the left operand is the point's rows of it. -/
theorem left_read (c : Dev nD) (t : Fin grid0.N) (b : Fin 2) (i : Fin 1024) (p : Fin 128) (k : Fin 5)
    (hb : b.val = (grid0.coords t 0).val) (hi : i.val = (grid0.coords t 1).val * 128 + p.val) :
    iblk m c 0 t (ix3 0 p k) = leftArr m c (ix3 b i k) := by
  refine congrArg (leftArr m c) (?_ : (win0_0.rect t).emb (ix3 0 p k : S1x128x5.Idx) = (ix3 b i k : S2x1024x5.Idx))
  funext a
  apply Fin.ext
  rw [Pipeline.Window.rect_emb_val win0_0, (placed t).1]
  fin_cases a
  · show (grid0.coords t 0).val * 1 + 0 = b.val
    omega
  · show (grid0.coords t 1).val * 128 + p.val = i.val
    omega
  · show 0 * 5 + k.val = k.val
    omega

/-- A point's block of the right operand is the point's batch entry of it. -/
theorem right_read (c : Dev nD) (t : Fin grid0.N) (b : Fin 2) (k : Fin 5) (l : Fin 22528) (hb : b.val = (grid0.coords t 0).val) :
    iblk m c 1 t (ix3 0 k l) = rightArr m c (ix3 b k l) := by
  refine congrArg (rightArr m c) (?_ : (win0_1.rect t).emb (ix3 0 k l : S1x5x22528.Idx) = (ix3 b k l : S2x5x22528.Idx))
  funext a
  apply Fin.ext
  rw [Pipeline.Window.rect_emb_val win0_1, (placed t).2.1]
  fin_cases a
  · show (grid0.coords t 0).val * 1 + 0 = b.val
    omega
  · show 0 * 5 + k.val = k.val
    omega
  · show 0 * 22528 + l.val = l.val
    omega

/-- Every point sees all of the edges and of the columns. -/
theorem lane_read (c : Dev nD) (t : Fin grid0.N) (l : Fin 22528) :
    iblk m c 2 t (ix2 0 l) = lowArr m c (ix2 0 l) ∧ iblk m c 3 t (ix2 0 l) = highArr m c (ix2 0 l)
      ∧ iblk m c 4 t (ix2 0 l) = columnArr m c (ix2 0 l) := by
  obtain ⟨-, -, e2, e3, e4, -⟩ := placed t
  refine ⟨?_, ?_, ?_⟩ <;> blk_ext [iblk, e2, e3, e4]

/-- A point writes its rows of its batch entry. -/
theorem write_place (t : Fin grid0.N) (b : Fin 2) (i : Fin 1024) (p : Fin 128) (l : Fin 22528)
    (hb : b.val = (grid0.coords t 0).val) (hi : i.val = (grid0.coords t 1).val * 128 + p.val) :
    (win0_5.rect t).emb (ix3 0 p l : S1x128x22528.Idx) = (ix3 b i l : S2x1024x22528.Idx) := by
  funext a
  apply Fin.ext
  rw [Pipeline.Window.rect_emb_val win0_5, (placed t).2.2.2.2.2]
  fin_cases a
  · show (grid0.coords t 0).val * 1 + 0 = b.val
    omega
  · show (grid0.coords t 1).val * 128 + p.val = i.val
    omega
  · show 0 * 22528 + l.val = l.val
    omega

/-- WHAT A POINT WRITES at an element of its block. -/
theorem block_apply (c : Dev nD) (t : Fin grid0.N) (b : Fin 2) (i : Fin 1024) (p : Fin 128) (l : Fin 22528)
    (hb : b.val = (grid0.coords t 0).val) (hi : i.val = (grid0.coords t 1).val * 128 + p.val) :
    k0_pay1 (k0_pay2 (iblk m c 0 t) (iblk m c 1 t)) (iota .tc S128x1 32 [0] iota_S128x1_d0_w32) (k0_pay3 (grid0.coords t)) 128#32 0#32
      (iblk m c 4 t) (iblk m c 2 t) (iblk m c 3 t) (ix3 0 p l) = hit m c b i l := by
  obtain ⟨h2, h3, h4⟩ := lane_read m c t l
  have hd : k0_pay2 (iblk m c 0 t) (iblk m c 1 t) (ix2 p l) = ∑ k : Fin 5, leftArr m c (ix3 b i k) * rightArr m c (ix3 b k l) :=
    (product_apply _ _ p l).trans (Finset.sum_congr rfl fun k _ =>
      congrArg₂ (fun x y : EReal => x * y) (left_read m c t b i p k hb hi) (right_read m c t b k l hb))
  have hz : BitVec.ofNat 32 ((grid0.coords t 1).val * 128) + BitVec.ofNat 32 p.val = BitVec.ofNat 32 i.val := by
    rw [← BitVec.ofNat_add, ← hi]
  refine (store_of _ _ _ _ _ p l _ _ _ _ _ hd h2 h3 h4 (base_apply (grid0.coords t) p)).trans ?_
  rw [hz]
  rfl

/-- THE ARRAY after all the points. -/
theorem array_eq (c : Dev nD) : (dats m 0 c).arrAt 5 cfg0.N = fun j : S2x1024x22528.Idx => hit m c (j 0) (j 1) (j 2) := by
  refine (dats m 0 c).arrAt_eq_of_covers 5 _ (by decide +kernel) fun t hf y => ?_
  blk_simp
  rw [after0_5]
  frame_out
  change S1x128x22528.Idx at y
  obtain ⟨a, p, l, rfl⟩ : ∃ (a : Fin 1) (p : Fin 128) (l : Fin 22528), y = ix3 a p l := ⟨y 0, y 1, y 2, eq_ix3 y⟩
  obtain rfl : a = 0 := Subsingleton.elim _ _
  have hb : (grid0.coords t 0).val < 2 := (grid0.coords t 0).isLt
  have hi : (grid0.coords t 1).val < 8 := (grid0.coords t 1).isLt
  have hw := write_place t ⟨_, hb⟩ ⟨(grid0.coords t 1).val * 128 + p.val, by omega⟩ p l rfl rfl
  have e0 := congrFun hw 0
  have e1 := congrFun hw 1
  have e2 := congrFun hw 2
  refine (block_apply m c t ⟨_, hb⟩ ⟨(grid0.coords t 1).val * 128 + p.val, by omega⟩ p l rfl rfl).trans ?_
  exact (congr (congr (congrArg (hit m c) e0) e1) e2).symm

/-- THE KERNEL'S ARRAY at an index, with finite coordinates and squared distances clear of the rounding of the edges. -/
theorem hit_eq (c : Dev nD) (p : Fin 2 → Fin 1024 → Fin 3 → ℝ)
    (hx : ∀ b i k, points m c (ix3 b i k) = (p b i k : EReal)) (hc : ∀ b i j, Clear (sqDist (p b i) (p b j)))
    (b : Fin 2) (i : Fin 1024) (l : Fin 22528) :
    hit m c b i l = oneHot (p b i) (p b ⟨l.val / 22, by omega⟩) (l.val % 22) := by
  have h : left m c b i l = (sqDist (p b i) (p b ⟨l.val / 22, by omega⟩) : EReal) := by
    unfold left
    rw [column_apply, product_eq m c p hx]
    split
    · next h =>
      have e : l.val / 22 = i.val := by
        have := congrArg BitVec.toNat h
        simpa [BitVec.toNat_ofNat, Nat.mod_eq_of_lt (by omega : l.val / 22 < 4294967296), Nat.mod_eq_of_lt (by omega : i.val < 4294967296)] using this
      rw [(Fin.ext e : (⟨l.val / 22, by omega⟩ : Fin 1024) = i), sqDist_self]
      rfl
    · rfl
  unfold hit
  rw [h, low_apply, high_apply, oneHot_eq _ _ (hc _ _ _) (by omega)]

end Cert.KernelIdeal.Value
-- ==== Proof.RefValue.lean ====
/- THE REFERENCE AT AN INDEX: with finite coordinates and an all-ones mask, the array the reference leaves holds, at
   structure `b`, row `i` and lane `l`, the one-hot value of the points `i` and `l / 22` at bin `l % 22`. -/
module

public import proofs.«01_k».proof.Proof.Gen.ReferenceIdeal.Run
public import proofs.«01_k».proof.Proof.Bins

@[expose] public section

set_option maxRecDepth 16384

noncomputable section

namespace Cert.ReferenceIdeal.Value

open Cert.ReferenceIdeal Cert.ReferenceIdeal.Gen Cert.Bins Idealize.ShloMosaic Idealize.ShloMosaic.Pointwise

/-- The differences of every pair of points, coordinate by coordinate. -/
def diff (x : FVec Ideal S2x1024x3 .f32) : FVec Ideal S2x1024x1024x3 .f32 :=
  subf (broadcastInDim S2x1024x1024x3 ![0, 1, 2, 3] bcast_S2x1024x1x3_S2x1024x1024x3_0_1_2_3
      (broadcastInDim S2x1024x1x3 ![0, 1, 3] bcast_S2x1024x3_S2x1024x1x3_0_1_3 x))
    (broadcastInDim S2x1024x1024x3 ![0, 1, 2, 3] bcast_S2x1x1024x3_S2x1024x1024x3_0_1_2_3
      (broadcastInDim S2x1x1024x3 ![0, 2, 3] bcast_S2x1024x3_S2x1x1024x3_0_2_3 x))

/-- The distances of every pair of points. -/
def dist (x : FVec Ideal S2x1024x3 .f32) : FVec Ideal S2x1024x1024 .f32 :=
  Host.sqrt (Host.reduceAdd (mulf (diff x) (diff x)) (constant S_ .f32 0x00000000#32)
    reducesTo_S2x1024x1024x3_S2x1024x1024_d3 h_S_)

/-- The positions of the first 20 limits between the ends, as fractions. -/
def steps : FVec Ideal S20 .f32 :=
  Host.divf (sitofp .f32 (iotaInDim S20 32 0)) (broadcastInDim S20 ![] bcast_S_S20 (constant S_ .f32 0x41A00000#32))

/-- The 21 limits: 20 between the ends by weights, then the upper end itself. -/
def limits : FVec Ideal S21 .f32 :=
  concatenate S21 0 [⟨S20, (addf
      (mulf (broadcastInDim S20 ![0] bcast_S1_S20_0 (shapeCast _ (id (constant S_ .f32 0x00000000#32)) shapeCasts_S_S1))
        (subf (broadcastInDim S20 ![] bcast_S_S20 (constant S_ .f32 0x3F800000#32)) steps))
      (mulf (broadcastInDim S20 ![0] bcast_S1_S20_0 (shapeCast _ (id (constant S_ .f32 0x40000000#32)) shapeCasts_S_S1))
        steps))⟩, ⟨S1, (broadcastInDim S1 ![] bcast_S_S1 (id (constant S_ .f32 0x40000000#32)))⟩] concatenates_S20_S1_S21_d0

/-- How many limits lie below each distance. -/
def counts (d : FVec Ideal S2x1024x1024 .f32) (l : FVec Ideal S21 .f32) : IVec S2x1024x1024 32 :=
  Host.reduce IntOp.addi (extui 32 (cmpf .olt
      (broadcastInDim S2x1024x1024x21 ![0, 1, 2, 3] bcast_S1x1x1x21_S2x1024x1024x21_0_1_2_3
        (broadcastInDim S1x1x1x21 ![3] bcast_S21_S1x1x1x21_3 l))
      (broadcastInDim S2x1024x1024x21 ![0, 1, 2, 3] bcast_S2x1024x1024x1_S2x1024x1024x21_0_1_2_3
        (broadcastInDim S2x1024x1024x1 ![0, 1, 2] bcast_S2x1024x1024_S2x1024x1024x1_0_1_2 d))) natLt_1_32)
    (constantI S_ 32 0#32) reducesTo_S2x1024x1024x21_S2x1024x1024_d3 h_S_

/-- The one-hot rows of the counts times the mask, bins flattened into the last axis. -/
def hot (n : IVec S2x1024x1024 32) (mask : FVec Ideal S2x1024x1024 .f32) : FVec Ideal S2x1024x22528 .f32 :=
  shapeCast _ (mulf
    (uitofp .f32 (cmpi .eq
      (broadcastInDim S2x1024x1024x22 ![0, 1, 2, 3] bcast_S2x1024x1024x1_S2x1024x1024x22_0_1_2_3
        (broadcastInDim S2x1024x1024x1 ![0, 1, 2] bcast_S2x1024x1024_S2x1024x1024x1_0_1_2 n))
      (broadcastInDim S2x1024x1024x22 ![0, 1, 2, 3] bcast_S1x1x1x22_S2x1024x1024x22_0_1_2_3 (iotaInDim S1x1x1x22 32 3))))
    (broadcastInDim S2x1024x1024x22 ![0, 1, 2, 3] bcast_S2x1024x1024x1_S2x1024x1024x22_0_1_2_3
      (broadcastInDim S2x1024x1024x1 ![0, 1, 2] bcast_S2x1024x1024_S2x1024x1024x1_0_1_2 mask)))
    shapeCasts_S2x1024x1024x22_S2x1024x22528

/-- A distance at an index: the root of the squared distance of the two points. -/
theorem dist_apply (x : FVec Ideal S2x1024x3 .f32) (p : Fin 2 → Fin 1024 → Fin 3 → ℝ)
    (hx : ∀ b i c, x (ix3 b i c) = (p b i c : EReal)) (b : Fin 2) (i j : Fin 1024) :
    dist x (ix3 b i j) = (Real.sqrt (sqDist (p b i) (p b j)) : EReal) := by
  have h : dist x (ix3 b i j)
      = Ideal.sqrt (∑ c, (x (ix3 b i c) - x (ix3 b j c)) * (x (ix3 b i c) - x (ix3 b j c))) := by
    pointwise [dist, diff]
  rw [h]
  simp only [hx, ← EReal.coe_sub, ← EReal.coe_mul, Fin.sum_univ_three, ← EReal.coe_add]
  rw [← Fin.sum_univ_three (fun c => (p b i c - p b j c) * (p b i c - p b j c))]
  exact if_neg (not_lt.mpr (sqDist_nonneg _ _))

/-- A limit at an index. -/
theorem limits_apply (k : Fin 21) : limits (ix1 k) = (limit k.val : EReal) := by
  have h : limits (ix1 k) = if k.val < 20 then
      Ideal.ofBits .f32 0x00000000#32 * (1 - Ideal.div (FloatOps.sitofp (F := Ideal) .f32 (BitVec.ofNat 32 k.val)) (Ideal.ofBits .f32 0x41A00000#32))
        + Ideal.ofBits .f32 0x40000000#32 * Ideal.div (FloatOps.sitofp (F := Ideal) .f32 (BitVec.ofNat 32 k.val)) (Ideal.ofBits .f32 0x41A00000#32)
      else Ideal.ofBits .f32 0x40000000#32 := by
    pointwise [limits, steps]
    simp [constant]
  rw [h, Ideal.ofBits_zero_f32, zero_mul, zero_add, word_two, word_twenty, count_word (by omega), div_twenty, ← EReal.coe_mul]
  unfold limit
  split
  · congr 1
    ring
  · next hk =>
    rw [(by omega : k.val = 20)]
    norm_num

/-- A sum of comparison bits is the number of comparisons that hold. -/
theorem fold_count {ι : Type} [DecidableEq ι] (s : Finset ι) (P : ι → Prop) [DecidablePred P] :
    Finset.fold IntOp.addi (0#32) (fun x => BitVec.setWidth 32 (BitVec.ofBool (decide (P x)))) s
      = BitVec.ofNat 32 (s.filter P).card := by
  induction s using Finset.induction_on with
  | empty => rfl
  | insert a s ha ih =>
    rw [Finset.fold_insert ha, ih, Finset.filter_insert]
    by_cases h : P a
    · rw [if_pos h, Finset.card_insert_of_notMem fun hc => ha (Finset.mem_of_mem_filter a hc), Nat.add_comm, BitVec.ofNat_add]
      simp [h, IntOp.addi]
    · rw [if_neg h]
      simp [h, IntOp.addi]

/-- The count at an index: the bin of the distance. -/
theorem counts_apply (d : FVec Ideal S2x1024x1024 .f32) (s : ℝ) (b : Fin 2) (i j : Fin 1024) (hd : d (ix3 b i j) = (s : EReal)) :
    counts d limits (ix3 b i j) = BitVec.ofNat 32 (bin s) := by
  have h : counts d limits (ix3 b i j)
      = Finset.fold IntOp.addi (0#32) (fun k => BitVec.setWidth 32 (BitVec.ofBool (decide (limits (ix1 k) < d (ix3 b i j))))) Finset.univ := by
    pointwise [counts]
  rw [h, fold_count]
  simp only [limits_apply, hd, EReal.coe_lt_coe_iff]
  rfl

/-- A bin is one of 22. -/
theorem bin_le (s : ℝ) : bin s ≤ 21 := by
  refine (Finset.card_le_univ _).trans ?_
  simp

/-- THE REFERENCE AT AN INDEX. -/
theorem result_apply (x : FVec Ideal S2x1024x3 .f32) (mask : FVec Ideal S2x1024x1024 .f32) (p : Fin 2 → Fin 1024 → Fin 3 → ℝ)
    (hx : ∀ b i c, x (ix3 b i c) = (p b i c : EReal)) (hm : ∀ b i j, mask (ix3 b i j) = 1) (b : Fin 2) (i : Fin 1024) (l : Fin 22528) :
    hot (counts (dist x) limits) mask (ix3 b i l)
      = oneHot (p b i) (p b ⟨l.val / 22, by omega⟩) (l.val % 22) := by
  have h : hot (counts (dist x) limits) mask (ix3 b i l)
      = FloatOps.uitofp (F := Ideal) .f32 (IntOp.cmpi .eq (counts (dist x) limits (ix3 b i ⟨l.val / 22, by omega⟩)) (BitVec.ofNat 32 (l.val % 22)))
        * mask (ix3 b i ⟨l.val / 22, by omega⟩) := by
    pointwise [hot]
  rw [h, counts_apply _ _ _ _ _ (dist_apply x p hx _ _ _), hm, mul_one]
  unfold oneHot
  generalize hs : Real.sqrt (sqDist (p b i) (p b ⟨l.val / 22, by omega⟩)) = s
  have hb := bin_le s
  have e : (BitVec.ofNat 32 (bin s) = BitVec.ofNat 32 (l.val % 22)) ↔ bin s = l.val % 22 := by
    constructor
    · intro h
      have := congrArg BitVec.toNat h
      simpa [BitVec.toNat_ofNat, Nat.mod_eq_of_lt (by omega : bin s < 4294967296), Nat.mod_eq_of_lt (by omega : l.val % 22 < 4294967296)] using this
    · exact fun h => congrArg _ h
  by_cases hk : bin s = l.val % 22
  · rw [if_pos hk, hk]
    simp [IntOp.cmpi, FloatOps.uitofp]
  · rw [if_neg hk]
    simp [IntOp.cmpi, FloatOps.uitofp, beq_eq_false_iff_ne.mpr (fun h => hk (e.mp h))]

end Cert.ReferenceIdeal.Value
-- ==== Proof.Precondition.lean ====
/- WHAT THE PRECONDITION GIVES: every coordinate is a real number, the mask is one everywhere, and every
   squared distance is clear of the rounding of the limits' squares. -/
module

public import proofs.«01_k».proof.Defs
public import proofs.«01_k».proof.Proof.Gen.Pre_finite_unmasked_and_clear
public import proofs.«01_k».proof.Proof.Bins
public import Idealize.ShloMosaic.Lib.Pipeline.ValueKit

@[expose] public section

noncomputable section

namespace Cert.Pre_finite_unmasked_and_clear.Value

open Cert.Pre_finite_unmasked_and_clear Cert.Pre_finite_unmasked_and_clear.Gen Idealize.ShloMosaic Cert.Bins
open Idealize.ShloMosaic.Pointwise

/-- An extended real whose absolute value is below the top is a real number. -/
theorem real_of_abs_lt (a : EReal) (h : max a (-a) < ⊤) : ∃ r : ℝ, a = r := by
  induction a with
  | bot => simp at h
  | top => simp at h
  | coe r => exact ⟨r, rfl⟩

/-- The coordinates are reals. -/
theorem coordinates (x : FVec Ideal S2x1024x3 .f32) (mask : FVec Ideal S2x1024x1024 .f32)
    (h : (fn (F := Ideal) x mask).1 = fun _ => 1#1) :
    ∃ p : Fin 2 → Fin 1024 → Fin 3 → ℝ, ∀ b i k, x (ix3 b i k) = (p b i k : EReal) := by
  have hr : ∀ b i k, ∃ r : ℝ, (x (ix3 b i k) : EReal) = r := fun b i k => by
    have e : (fn (F := Ideal) x mask).1 (ix3 b i k) = Ideal.cmp .olt (max (x (ix3 b i k)) (-x (ix3 b i k))) (Ideal.ofBits .f32 0x7F800000#32) := by
      pointwise [fn, fn_part1]
      rfl
    rw [h, word_top] at e
    refine real_of_abs_lt _ ?_
    by_contra hn
    simp [Ideal.cmp, hn] at e
  choose p hp using hr
  exact ⟨p, hp⟩

/-- The mask is one. -/
theorem unmasked (x : FVec Ideal S2x1024x3 .f32) (mask : FVec Ideal S2x1024x1024 .f32)
    (h : (fn (F := Ideal) x mask).2.1 = fun _ => 1#1) (b : Fin 2) (i j : Fin 1024) : mask (ix3 b i j) = 1 := by
  have e : (fn (F := Ideal) x mask).2.1 (ix3 b i j) = Ideal.cmp .oeq (mask (ix3 b i j)) (Ideal.ofBits .f32 0x3F800000#32) := by
    pointwise [fn, fn_part1]
  rw [h, Ideal.ofBits_one_f32] at e
  by_contra hn
  simp [Ideal.cmp, hn] at e

/-- The predicate's limits. -/
def limits : FVec Ideal S21 .f32 := fn_linspace (F := Ideal) (constant S_ .f32 0x00000000#32) (constant S_ .f32 0x40000000#32)

/-- A limit as the predicate computes it. -/
theorem limits_apply (k : Fin 21) : limits (ix1 k) = (limit k.val : EReal) := by
  have h : limits (ix1 k) = if k.val < 20 then
      Ideal.ofBits .f32 0x00000000#32 * (1 - Ideal.div (FloatOps.sitofp (F := Ideal) .f32 (BitVec.ofNat 32 k.val)) (Ideal.ofBits .f32 0x41A00000#32))
        + Ideal.ofBits .f32 0x40000000#32 * Ideal.div (FloatOps.sitofp (F := Ideal) .f32 (BitVec.ofNat 32 k.val)) (Ideal.ofBits .f32 0x41A00000#32)
      else Ideal.ofBits .f32 0x40000000#32 := by
    pointwise [limits, fn_linspace]
    simp [constant]
  rw [h, Ideal.ofBits_zero_f32, zero_mul, zero_add, word_two, word_twenty, count_word (by omega), div_twenty, ← EReal.coe_mul]
  unfold limit
  split
  · congr 1
    ring
  · next hk =>
    rw [(by omega : k.val = 20)]
    norm_num

/-- The predicate's words. -/
def words : FVec Ideal S21 .f32 := fun i => FloatOps.ofBits .f32 (lit0 (S21.rowMajor i))

/-- The squared distances of every pair of points. -/
def squares (x : FVec Ideal S2x1024x3 .f32) : FVec Ideal S2x1024x1024x1 .f32 :=
  let a : FVec Ideal S2x1024x1024x3 .f32 := broadcastInDim S2x1024x1024x3 ![0, 1, 2, 3] bcast_S2x1024x1x3_S2x1024x1024x3_0_1_2_3
    (broadcastInDim S2x1024x1x3 ![0, 1, 3] bcast_S2x1024x3_S2x1024x1x3_0_1_3 x)
  let b : FVec Ideal S2x1024x1024x3 .f32 := broadcastInDim S2x1024x1024x3 ![0, 1, 2, 3] bcast_S2x1x1024x3_S2x1024x1024x3_0_1_2_3
    (broadcastInDim S2x1x1024x3 ![0, 2, 3] bcast_S2x1024x3_S2x1x1024x3_0_2_3 x)
  broadcastInDim S2x1024x1024x1 ![0, 1, 2] bcast_S2x1024x1024_S2x1024x1024x1_0_1_2
    (Host.reduceAdd (mulf (subf a b) (subf a b)) (constant S_ .f32 0x00000000#32) reducesTo_S2x1024x1024x3_S2x1024x1024_d3 h_S_)

/-- Whether squared distances compare with the limits' squares as with the words. -/
def agree (d : FVec Ideal S2x1024x1024x1 .f32) (l w : FVec Ideal S21 .f32) : IVec S2x1024x1024x21 1 :=
  cmpi .eq
    (cmpf .olt (broadcastInDim S2x1024x1024x21 ![0, 1, 2, 3] bcast_S1x1x1x21_S2x1024x1024x21_0_1_2_3
        (broadcastInDim S1x1x1x21 ![3] bcast_S21_S1x1x1x21_3 (mulf l l)))
      (broadcastInDim S2x1024x1024x21 ![0, 1, 2, 3] bcast_S2x1024x1024x1_S2x1024x1024x21_0_1_2_3 d))
    (cmpf .ogt (broadcastInDim S2x1024x1024x21 ![0, 1, 2, 3] bcast_S2x1024x1024x1_S2x1024x1024x21_0_1_2_3 d)
      (broadcastInDim S2x1024x1024x21 ![0, 1, 2, 3] bcast_S1x1x1x21_S2x1024x1024x21_0_1_2_3
        (broadcastInDim S1x1x1x21 ![3] bcast_S21_S1x1x1x21_3 w)))

/-- The predicate's third result is that comparison. -/
theorem third_eq (x : FVec Ideal S2x1024x3 .f32) (mask : FVec Ideal S2x1024x1024 .f32) :
    (fn (F := Ideal) x mask).2.2 = agree (squares x) limits words := rfl

/-- The comparison at an index. -/
theorem agree_apply (d : FVec Ideal S2x1024x1024x1 .f32) (l w : FVec Ideal S21 .f32) (b : Fin 2) (i j : Fin 1024) (k : Fin 21) :
    agree d l w (ix4 b i j k) = IntOp.cmpi .eq (Ideal.cmp .olt (l (ix1 k) * l (ix1 k)) (d (ix4 b i j 0))) (Ideal.cmp .ogt (d (ix4 b i j 0)) (w (ix1 k))) := by
  pointwise [agree]

/-- A word at an index. -/
theorem words_apply (k : Fin 21) : words (ix1 k) = Ideal.ofBits .f32 (word k) := by
  show Ideal.ofBits .f32 (lit0 (S21.rowMajor (ix1 k))) = Ideal.ofBits .f32 (lit0 k)
  congr 2
  apply Fin.ext
  rw [Shape.rowMajor_val_one]
  rfl

/-- A squared distance at an index. -/
theorem squares_apply (x : FVec Ideal S2x1024x3 .f32) (p : Fin 2 → Fin 1024 → Fin 3 → ℝ)
    (hx : ∀ b i k, x (ix3 b i k) = (p b i k : EReal)) (b : Fin 2) (i j : Fin 1024) :
    squares x (ix4 b i j 0) = (sqDist (p b i) (p b j) : EReal) := by
  have h : squares x (ix4 b i j 0) = ∑ c, (x (ix3 b i c) - x (ix3 b j c)) * (x (ix3 b i c) - x (ix3 b j c)) := by
    pointwise [squares]
  rw [h]
  simp only [hx, ← EReal.coe_sub, ← EReal.coe_mul, Fin.sum_univ_three, ← EReal.coe_add]
  rw [← Fin.sum_univ_three (fun c => (p b i c - p b j c) * (p b i c - p b j c))]
  rfl

/-- The squared distances are clear of the rounding. -/
theorem clear (x : FVec Ideal S2x1024x3 .f32) (mask : FVec Ideal S2x1024x1024 .f32)
    (h : (fn (F := Ideal) x mask).2.2 = fun _ => 1#1) (p : Fin 2 → Fin 1024 → Fin 3 → ℝ)
    (hx : ∀ b i k, x (ix3 b i k) = (p b i k : EReal)) (b : Fin 2) (i j : Fin 1024) : Clear (sqDist (p b i) (p b j)) := by
  intro k
  have e : agree (squares x) limits words (ix4 b i j k) = 1#1 := congrFun ((third_eq x mask).symm.trans h) _
  rw [agree_apply, squares_apply x p hx, limits_apply, words_apply, ← EReal.coe_mul] at e
  rw [← EReal.coe_lt_coe_iff]
  generalize ((limit k.val * limit k.val : ℝ) : EReal) = u at *
  generalize (sqDist (p b i) (p b j) : EReal) = v at *
  generalize Ideal.ofBits .f32 (word k) = w at *
  by_cases h1 : u < v <;> by_cases h2 : w < v <;> simp [Ideal.cmp, IntOp.cmpi, h1, h2] at e ⊢

end Cert.Pre_finite_unmasked_and_clear.Value

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_unmasked_and_clear
public import proofs.«01_k».proof.Proof.Block
public import proofs.«01_k».proof.Proof.RefValue
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were, and has no semaphore that could be left up. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems rfl r.2⟩) (Cert.ReferenceIdeal.Value.run m g)

/-- THE EQUATION: from coordinates that are reals, a mask of ones and squared distances clear of the rounding, what the reference computes is the kernel's array. -/
theorem values_eq (m : (ℓ : Loc Cert.KernelIdeal.nD Cert.KernelIdeal.τ Cert.KernelIdeal.sig) → Buf (Elt Ideal) ℓ)
    (hpre : Cert.Pre_KernelIdeal_finite_unmasked_and_clear m) (c : Dev Cert.KernelIdeal.nD) (x : FVec Ideal Cert.ReferenceIdeal.S2x1024x3 .f32)
    (mask : FVec Ideal Cert.ReferenceIdeal.S2x1024x1024 .f32)
    (hx : x = m ((c.tc : Thread Cert.KernelIdeal.nD Cert.KernelIdeal.τ).loc Cert.KernelIdeal.main_arg0))
    (hm : mask = m ((c.tc : Thread Cert.KernelIdeal.nD Cert.KernelIdeal.τ).loc Cert.KernelIdeal.main_arg1)) :
    Cert.ReferenceIdeal.Value.hot (Cert.ReferenceIdeal.Value.counts (Cert.ReferenceIdeal.Value.dist x) Cert.ReferenceIdeal.Value.limits) mask
      = (Cert.KernelIdeal.Gen.dats m 0 c).arrAt 5 Cert.KernelIdeal.cfg0.N := by
  subst hx hm
  obtain ⟨p, hp⟩ := Cert.Pre_finite_unmasked_and_clear.Value.coordinates _ _ (hpre c).1
  have hu := Cert.Pre_finite_unmasked_and_clear.Value.unmasked _ _ (hpre c).2.1
  have hc := Cert.Pre_finite_unmasked_and_clear.Value.clear _ _ (hpre c).2.2 p hp
  refine Eq.trans ?_ (Cert.KernelIdeal.Value.array_eq m c).symm
  funext j
  obtain ⟨b, i, l, rfl⟩ : ∃ (b : Fin 2) (i : Fin 1024) (l : Fin 22528), j = ix3 b i l := ⟨j 0, j 1, j 2, eq_ix3 j⟩
  exact (Cert.ReferenceIdeal.Value.result_apply _ _ p hp hu b i l).trans (Cert.KernelIdeal.Value.hit_eq m c p hp hc b i l).symm

/-- The kernel and the reference, over the extended reals, end with one array. -/
theorem algebraic : Cert.algebraic_KernelIdeal_ReferenceIdeal_pre_finite_unmasked_and_clear := by
  intro m g m' g' hpre hagree
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨?_, (h c).2⟩) (Cert.ReferenceIdeal.Value.run m' g')
  exact (h c).1.trans (values_eq m hpre c _ _ (hagree c).1 (hagree c).2)

/-- The certificate. -/
theorem claim : Cert.Claim :=
  ⟨Cert.Kernel.Gen.facts, Cert.KernelIdeal.Gen.facts, Cert.ReferenceIdeal.Gen.facts, Cert.Pre_finite_unmasked_and_clear.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, algebraic⟩

end Cert.Proof

end
